-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v1) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S4x8192 : Shape := ⟨2, ![4, 8192]⟩
abbrev S8192x1024 : Shape := ⟨2, ![8192, 1024]⟩
abbrev S2x32x1024 : Shape := ⟨3, ![2, 32, 1024]⟩
abbrev S16x2x32x1024 : Shape := ⟨4, ![16, 2, 32, 1024]⟩
abbrev S2 : Shape := ⟨1, ![2]⟩
abbrev S1x32x1024 : Shape := ⟨3, ![1, 32, 1024]⟩
abbrev S32x1024 : Shape := ⟨2, ![32, 1024]⟩
abbrev S1 : Shape := ⟨1, ![1]⟩
abbrev S_ : Shape := ⟨0, ![]⟩
abbrev S1x2x32x1024 : Shape := ⟨4, ![1, 2, 32, 1024]⟩

abbrev nBuf : Table → Nat
  | .hbm => 3
  | .shared => 1
  | .local .scVector .vmem => 1
  | _ => 0

abbrev bufTy : (tb : Table) → Fin (nBuf tb) → BufTy
  | .hbm, ⟨0, _⟩ => ⟨S4x8192, .i32⟩
  | .hbm, ⟨1, _⟩ => ⟨S8192x1024, .f32⟩
  | .hbm, ⟨2, _⟩ => ⟨S8192x1024, .f32⟩
  | .shared, ⟨0, _⟩ => ⟨S16x2x32x1024, .f32⟩
  | .local .scVector .vmem, ⟨0, _⟩ => ⟨S2x32x1024, .f32⟩
  | _, _ => ⟨S4x8192, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg1_scv : Ref sig .scVector := ⟨.hbm, 1, rfl⟩
abbrev main_v0_scv : Ref sig .scVector := ⟨.hbm, 2, rfl⟩
abbrev cc0_scratch1 : Ref sig .scVector := ⟨.shared, 0, rfl⟩
abbrev cc0_scratch0 : Ref sig .scVector := ⟨.vmem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c256_i32 : BitVec 32 := 256#32
  let v2 : BitVec 32 := Scalar.muli v1 c256_i32
  let v4 : BitVec 32 := Scalar.addi v2 c0_i32
  let c0_i32_4 : BitVec 32 := 0#32
  ![v4.toNat, 0]
def k0_off2 (i : grid0.Coords) : Fin 4 → Nat :=
  let arg1 : BitVec 32 := BitVec.ofNat 32 (i 1).val
  let c0_i32_11 : BitVec 32 := 0#32
  let c0_i32_12 : BitVec 32 := 0#32
  let c0_i32_13 : BitVec 32 := 0#32
  ![arg1.toNat, 0, 0, 0]
def k0_off3 (i : grid0.Coords) (c0_i32_8 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c256_i32 : BitVec 32 := 256#32
  let v2 : BitVec 32 := Scalar.muli v1 c256_i32
  let c96_i32 : BitVec 32 := 96#32
  let v3 : BitVec 32 := Scalar.addi v2 c96_i32
  let v13 : BitVec 32 := Scalar.addi v3 c0_i32_8
  let c0_i32_16 : BitVec 32 := 0#32
  ![v13.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S4x8192 : Shape := ⟨2, ![4, 8192]⟩
abbrev S8192x1024 : Shape := ⟨2, ![8192, 1024]⟩
abbrev S8192 : Shape := ⟨1, ![8192]⟩
abbrev S_ : Shape := ⟨0, ![]⟩
abbrev S8192x1 : Shape := ⟨2, ![8192, 1]⟩
abbrev S1 : Shape := ⟨1, ![1]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S4x8192, .i32⟩
  | .hbm, ⟨1, _⟩ => ⟨S8192x1024, .f32⟩
  | .hbm, ⟨2, _⟩ => ⟨S8192, .i32⟩
  | .hbm, ⟨3, _⟩ => ⟨S_, .i32⟩
  | .hbm, ⟨4, _⟩ => ⟨S8192, .i32⟩
  | .hbm, ⟨5, _⟩ => ⟨S8192, .i1⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S8192, .i32⟩
  | .hbm, ⟨10, _⟩ => ⟨S8192x1, .i32⟩
  | .hbm, ⟨11, _⟩ => ⟨S1, .i32⟩
  | .hbm, ⟨12, _⟩ => ⟨S_, .i32⟩
  | .hbm, ⟨13, _⟩ => ⟨S8192x1, .i32⟩
  | .hbm, ⟨14, _⟩ => ⟨S8192x1, .i1⟩
  | .hbm, ⟨15, _⟩ => ⟨S1x1, .i32⟩
  | .hbm, ⟨16, _⟩ => ⟨S8192x1, .i32⟩
  | .hbm, ⟨17, _⟩ => ⟨S8192x1, .i1⟩
  | .hbm, ⟨18, _⟩ => ⟨S8192x1, .i1⟩
  | .hbm, ⟨19, _⟩ => ⟨S_, .i1⟩
  | .hbm, ⟨20, _⟩ => ⟨S8192, .i1⟩
  | .hbm, ⟨21, _⟩ => ⟨S8192x1024, .f32⟩
  | .hbm, ⟨22, _⟩ => ⟨S8192x1024, .i1⟩
  | .hbm, ⟨23, _⟩ => ⟨S_, .f32⟩
  | .hbm, ⟨24, _⟩ => ⟨S8192x1024, .f32⟩
  | .hbm, ⟨25, _⟩ => ⟨S8192x1024, .f32⟩
  | _, _ => ⟨S4x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩

abbrev nD : Nat := 1
abbrev τ : Topo := Topo.v7x

variable {F : FTy → Type} [FloatOps F]
-- ==== Proof.Rows.lean ====
/-
  The position-embedding lookup kernel: the launch's parts as the library names them, the memrefs its tasks copy between,
  and the pieces the buffers are cut into.

  The table and the result are 8192 rows of 1024 floats. They are cut into 256 blocks of 32 rows; the task on subcore `i`
  of SparseCore `c` moves the eight blocks `128 c + 8 i + r`. Each SparseCore's shared scratch is cut into sixteen slots,
  one a task; a slot, like a task's private scratch, is two halves of a block's size.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The launch -/

/-- The program's labels, before the launch adds its own. -/
abbrev ΛP : Labels := Pipeline.Sig Λ₀ (Fin 0) fun p => (pcfgs (F := F) p).Adm
/-- The program's one SparseCore call. -/
abbrev K : SparseCore.Cfg τ sig (ΛP (F := F)) 1 := sc (F := F)
/-- The bodies the labels name. -/
abbrev D [FloatOps F] : Defs nD τ sig (Elt F) (ΛP (F := F)) := Pipeline.defs pcfgs defs₀
/-- No loop of the program needs a variant. -/
abbrev 𝒱₀ : Variants := Variants.none
/-- The same, over the launch's labels. -/
abbrev 𝒱 : Variants := 𝒱₀.lift
/-- The variant the launch starts from. -/
abbrev v₀ : 𝒱.V := Sum.inl none

/-- The call runs on two SparseCores, -/
theorem nCore_zero : (K (F := F)).nCore 0 = 2 := rfl
/-- on sixteen subcores of each. -/
theorem nSub_zero : (K (F := F)).nSub 0 = 16 := rfl

/-- What the launch theorem asks of the launch semaphores and of the buffers' owners. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- The ghost state: the launch's handshakes, and the counters of the copies in flight. -/
abbrev UH : Type := URounds (GSem nD τ sig) ℕ
/-- Both together. -/
abbrev UU : Type := UH × Counters

local notation "𝕄" => MT nD τ sig (HIx 1) (Elt F) ℕ UU ℕ

/-- The handshakes' place in the ghost state. -/
abbrev EH : Emb UH (MT nD τ sig (HIx 1) (Elt F) ℕ UU ℕ) := embL

/-! ## The buffers -/

/-- The buffer of the operand no one touches. -/
abbrev pLoc (d : Dev nD) : Loc nD τ sig := (SparseCore.T d).loc main_arg0
/-- The table's buffer. -/
abbrev wLoc (d : Dev nD) : Loc nD τ sig := (SparseCore.T d).loc main_arg1
/-- The result's buffer. -/
abbrev oLoc (d : Dev nD) : Loc nD τ sig := (SparseCore.T d).loc main_v0
/-- SparseCore `c`'s shared scratch, as a device names it; -/
abbrev sRef (c : Fin τ.nSC) : DevRef τ sig := ⟨.shared, ⟨0, by decide⟩, c⟩
/-- as the mesh does. -/
abbrev sLoc (d : Dev nD) (c : Fin τ.nSC) : Loc nD τ sig := (d, sRef c)

/-- The table, as a task names it. -/
abbrev wV : Memref sig .scVector .hbm S8192x1024 .f32 := Memref.whole main_arg1_scv
/-- The result, as a task names it. -/
abbrev oV : Memref sig .scVector .hbm S8192x1024 .f32 := Memref.whole main_v0_scv
/-- A task's private scratch. -/
abbrev tV : Memref sig .scVector .vmem S2x32x1024 .f32 := Memref.whole cc0_scratch0
/-- The shared scratch of the task's SparseCore. -/
abbrev sV : Memref sig .scVector .shared S16x2x32x1024 .f32 := Memref.whole cc0_scratch1

/-! ## The memrefs the task copies between -/

/-- Thirty-two rows of the table, from a row on. -/
abbrev wRows (off : Fin 2 → ℕ) (h : ∀ a, off a + S32x1024.size a ≤ S8192x1024.size a) : Memref sig .scVector .hbm S32x1024 .f32 :=
  wV.slice (Rect.unit (s := S8192x1024) off S32x1024.size h) (fun _ => rfl)
/-- Thirty-two rows of the result, from a row on. -/
abbrev oRows (off : Fin 2 → ℕ) (h : ∀ a, off a + S32x1024.size a ≤ S8192x1024.size a) : Memref sig .scVector .hbm S32x1024 .f32 :=
  oV.slice (Rect.unit (s := S8192x1024) off S32x1024.size h) (fun _ => rfl)

/-- Half `b` of a scratch of two blocks. -/
abbrev half {sp : Space} (A : Memref sig .scVector sp S2x32x1024 .f32) (b : ℕ)
    (h : ∀ a, (![b, 0, 0] : Fin 3 → ℕ) a + S1x32x1024.size a ≤ S2x32x1024.size a) : Memref sig .scVector sp S32x1024 .f32 :=
  (A.slice (Rect.unit (s := S2x32x1024) ![b, 0, 0] S1x32x1024.size h) (fun _ => rfl)).squeeze S32x1024 squeezes_S1x32x1024_S32x1024

/-- The task's slot of the shared scratch. -/
abbrev slotK (L : grid0.Coords) : Memref sig .scVector .shared S2x32x1024 .f32 :=
  (sV.slice (Rect.unit (s := S16x2x32x1024) (k0_off2 L) S1x2x32x1024.size (k0_off2_inb L)) (fun _ => rfl)).squeeze S2x32x1024
    squeezes_S1x2x32x1024_S2x32x1024

/-- Semaphore `b` of a pair. -/
abbrev semAt (A : DmaSems sig S2) (b : ℕ) (h : ∀ a, (![b] : Fin 1 → ℕ) a + S1.size a ≤ S2.size a) : DmaSem sig :=
  ((A.slice (Rect.unit (s := S2) ![b] S1.size h)).squeeze S_ squeezes_S1_S_).sem

/-! ## The cuts -/

/-- The rows are 256 blocks of one size; -/
theorem cut256 : 256 ∣ S8192x1024.size 0 := ⟨32, rfl⟩
/-- the shared scratch is sixteen slots; -/
theorem cut16 : 16 ∣ S16x2x32x1024.size 0 := ⟨1, rfl⟩
/-- a slot or a private scratch is two halves. -/
theorem cut2 : 2 ∣ S2x32x1024.size 0 := ⟨1, rfl⟩

/-- Block `n` of the table or of the result. -/
abbrev block (n : Fin 256) : Finset S8192x1024.Idx := (Rect.part (s := S8192x1024) (a₀ := 0) cut256 n).set
/-- Slot `i` of a shared scratch. -/
abbrev slot (i : Fin 16) : Finset S16x2x32x1024.Idx := (Rect.part (s := S16x2x32x1024) (a₀ := 0) cut16 i).set

/-- The number of block `r` of the task on subcore `i` of SparseCore `c`. -/
def blockNo (c : Fin 2) (i : Fin 16) (r : Fin 8) : Fin 256 := ⟨128 * c.val + 8 * i.val + r.val, by omega⟩

/-- Thirty-two rows from row `32 n` on are block `n`. -/
theorem rows_eq (off : Fin 2 → ℕ) (h : ∀ a, off a + S32x1024.size a ≤ S8192x1024.size a) (n : Fin 256) (e : off = ![32 * n.val, 0]) :
    Rect.unit (s := S8192x1024) off S32x1024.size h = Rect.part (s := S8192x1024) (a₀ := 0) cut256 n := by
  subst e
  unfold Rect.part Rect.block
  congr 1 <;> funext a
  · match a with
    | 0 => simp [Shape.partIx, Shape.partSize, Nat.mul_comm]
    | 1 => simp [Shape.partIx, Shape.partSize]
  · match a with
    | 0 => simp [Shape.partSize]
    | 1 => simp [Shape.partSize]

/-- Thirty-two rows of the table from row `32 n` on are its block `n`. -/
theorem set_wRows (off : Fin 2 → ℕ) (h : ∀ a, off a + S32x1024.size a ≤ S8192x1024.size a) (n : Fin 256) (e : off = ![32 * n.val, 0]) :
    (wRows off h).view.set = block n :=
  (View.set_slice_whole main_arg1_scv _).trans (by rw [rows_eq off h n e])
/-- Thirty-two rows of the result from row `32 n` on are its block `n`. -/
theorem set_oRows (off : Fin 2 → ℕ) (h : ∀ a, off a + S32x1024.size a ≤ S8192x1024.size a) (n : Fin 256) (e : off = ![32 * n.val, 0]) :
    (oRows off h).view.set = block n :=
  (View.set_slice_whole main_v0_scv _).trans (by rw [rows_eq off h n e])

/-- The task's slot is the one of its subcore's number. -/
theorem set_slotK (L : grid0.Coords) (i : Fin 16) (e : (L 1).val = i.val) : (slotK L).view.set = slot i := by
  show (((View.whole cc0_scratch1).slice (Rect.unit (s := S16x2x32x1024) (k0_off2 L) S1x2x32x1024.size (k0_off2_inb L))).reshape
    S2x32x1024 squeezes_S1x2x32x1024_S2x32x1024.numel_eq).set = _
  rw [View.set_reshape]
  refine (View.set_slice_whole cc0_scratch1 _).trans (congrArg (fun r : Rect S16x2x32x1024 => r.set) ?_)
  unfold Rect.part Rect.block
  congr 1 <;> funext a
  · rw [k0_off2_eq]
    match a with
    | 0 => simp [Shape.partIx, Shape.partSize, e]
    | 1 => simp [Shape.partIx, Shape.partSize]
    | 2 => simp [Shape.partIx, Shape.partSize]
    | 3 => simp [Shape.partIx, Shape.partSize]
  · match a with
    | 0 => simp [Shape.partSize]
    | 1 => simp [Shape.partSize]
    | 2 => simp [Shape.partSize]
    | 3 => simp [Shape.partSize]

/-- A half of a scratch is a half of its elements. -/
theorem set_half {sp : Space} (A : Memref sig .scVector sp S2x32x1024 .f32) (b : ℕ) (n : Fin 2) (e : b = n.val)
    (h : ∀ a, (![b, 0, 0] : Fin 3 → ℕ) a + S1x32x1024.size a ≤ S2x32x1024.size a) :
    (half A b h).view.set = (Rect.part (s := S2x32x1024) (a₀ := 0) cut2 n).set.map A.view.emb := by
  subst e
  show ((A.view.slice (Rect.unit (s := S2x32x1024) ![n.val, 0, 0] S1x32x1024.size h)).reshape
    S32x1024 squeezes_S1x32x1024_S32x1024.numel_eq).set = _
  rw [View.set_reshape, View.set_slice]
  refine congrArg (fun r : Rect S2x32x1024 => Finset.map A.view.emb r.set) ?_
  unfold Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

/-- The two halves of a scratch share no element, -/
theorem halves_disjoint {sp : Space} (A : Memref sig .scVector sp S2x32x1024 .f32) :
    Disjoint (half A 0 inb_S2x32x1024_S1x32x1024_0_0_0).view.set (half A 1 inb_S2x32x1024_S1x32x1024_1_0_0).view.set := by
  rw [set_half A 0 0 rfl, set_half A 1 1 rfl, Finset.disjoint_map]
  exact Rect.part_disjoint cut2 (by decide)

/-- and together are all of it. -/
theorem halves_union {sp : Space} (A : Memref sig .scVector sp S2x32x1024 .f32) :
    (half A 0 inb_S2x32x1024_S1x32x1024_0_0_0).view.set ∪ (half A 1 inb_S2x32x1024_S1x32x1024_1_0_0).view.set = A.view.set := by
  rw [set_half A 0 0 rfl, set_half A 1 1 rfl, ← Finset.map_union]
  refine congrArg (Finset.map A.view.emb) (Eq.trans ?_ (Rect.biUnion_part cut2))
  rw [show (Finset.univ : Finset (Fin 2)) = {0, 1} from by decide, Finset.biUnion_insert, Finset.singleton_biUnion]

end Cert.Proof.Lookup

end
-- ==== Proof.Tile.lean ====
/-
  One task of the lookup kernel: eight blocks of rows copied from the table to the result, three through the task's
  private scratch and five through its slot of the shared one, each copy in and each copy out a transfer on one of the
  task's eight semaphores. The symbolic executor runs it; what lands in the result is the table's block (`landed`).
-/
module

public import proofs.«01_k».proof.Proof.Rows

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (d : Dev nD) (L : grid0.Coords)

/-- The SparseCore the task runs on. -/
abbrev cV : Fin τ.nSC := (L 0).castLE hcore0
/-- The subcore the task runs on. -/
abbrev iV : Fin τ.nSub := (L 1).castLE hsub0
/-- The grid is two SparseCores -/
theorem bound_zero : grid0.bound 0 = 2 := rfl
/-- by sixteen subcores. -/
theorem bound_one : grid0.bound 1 = 16 := rfl
/-- The number of the task's SparseCore among the two, -/
abbrev cN : Fin 2 := Fin.cast bound_zero (L 0)
/-- and of its subcore among the sixteen. -/
abbrev iN : Fin 16 := Fin.cast bound_one (L 1)
/-- The thread that runs the task. -/
abbrev tile : Thread nD τ := V d (cV L) (iV L)

/-! ## The pieces, as the task addresses them -/

/-- Holding block `n` of the table is holding the thirty-two rows from row `32 n` on as the task addresses them. -/
theorem pts_wRows (off : Fin 2 → ℕ) (h : ∀ a, off a + S32x1024.size a ≤ S8192x1024.size a) (n : Fin 256) (e : off = ![32 * n.val, 0])
    (f : Buf (Elt F) (wLoc d)) :
    (wLoc d ↦[block n]{fullShare} f : sProp 𝕄) = (wRows off h).view.loc (tile d L) ↦[(wRows off h).view.set]{fullShare} f := by
  rw [set_wRows off h n e]
/-- The same of the result. -/
theorem pts_oRows (off : Fin 2 → ℕ) (h : ∀ a, off a + S32x1024.size a ≤ S8192x1024.size a) (n : Fin 256) (e : off = ![32 * n.val, 0])
    (f : Buf (Elt F) (oLoc d)) :
    (oLoc d ↦[block n]{fullShare} f : sProp 𝕄) = (oRows off h).view.loc (tile d L) ↦[(oRows off h).view.set]{fullShare} f := by
  rw [set_oRows off h n e]

/-- The copies through the private scratch start at the rows of the task's first three blocks, -/
theorem off_lo (r : Fin 3) (q : Fin 8) (e : q.val = r.val) :
    k0_off1 L (BitVec.ofNat 32 (32 * r.val)) = ![32 * (blockNo (cN L) (iN L) q).val, 0] := by
  rw [k0_off1_eq]
  congr 1
  show 4096 * (L 0).val + 256 * (L 1).val + 32 * r.val = 32 * (128 * (L 0).val + 8 * (L 1).val + q.val)
  omega
/-- those through the shared one at the rows of its other five. -/
theorem off_hi (r : Fin 5) (q : Fin 8) (e : q.val = r.val + 3) :
    k0_off3 L (BitVec.ofNat 32 (32 * r.val)) = ![32 * (blockNo (cN L) (iN L) q).val, 0] := by
  rw [k0_off3_eq]
  congr 1
  show 4096 * (L 0).val + 256 * (L 1).val + 32 * r.val + 96 = 32 * (128 * (L 0).val + 8 * (L 1).val + q.val)
  omega

/-- Eight of a kind, one by one. -/
theorem bigSep_eight {M : Type} [URA M] (Φ : Fin 8 → sProp M) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

variable (F) in
/-- Semaphore `b` of a pair, held at zero as the task addresses it. -/
abbrev semP (A : DmaSems sig S2) (b : ℕ) (h : ∀ a, (![b] : Fin 1 → ℕ) a + S1.size a ≤ S2.size a) : sProp 𝕄 :=
  semVal (tile d L, SemLoc.dma (semAt A b h)) 0

/-- The cells of the eight semaphores the task's copies signal. -/
def copyCells : Fin 8 ↪ GSem nD τ sig := ⟨fun k => (tile d L, SemLoc.dma k), fun a b h => by simpa using h⟩

/-- They are semaphores of the task's own. -/
theorem copyCells_sub : Finset.univ.map (copyCells d L) ⊆ ownCells (tile d L) := by
  intro g hg
  obtain ⟨k, -, rfl⟩ := Finset.mem_map.mp hg
  exact mem_ownCells.mpr ⟨rfl, (by decide : ∀ k : Fin 8, (SemLoc.dma k : SemLoc sig).isScoped .scVector = true) k⟩

/-- The task's own semaphores: the eight its copies signal, and the rest. -/
theorem ownSems_tile : (ownSems0 (tile d L) : sProp 𝕄)
    = iprop((semP F d L cc0_scratch2 0 inb_S2_S1_0 ∗ semP F d L cc0_scratch2 1 inb_S2_S1_1
          ∗ semP F d L cc0_scratch3 0 inb_S2_S1_0 ∗ semP F d L cc0_scratch3 1 inb_S2_S1_1
          ∗ semP F d L cc0_scratch4 0 inb_S2_S1_0 ∗ semP F d L cc0_scratch4 1 inb_S2_S1_1
          ∗ semP F d L cc0_scratch5 0 inb_S2_S1_0 ∗ semP F d L cc0_scratch5 1 inb_S2_S1_1)
        ∗ bigSep (ownCells (tile d L) \ Finset.univ.map (copyCells d L)) fun g => semVal g 0) := by
  unfold ownSems0
  rw [bigSep_sdiff_split (copyCells_sub d L), bigSep_map, bigSep_eight]
  rfl

/-- The task's own buffers: its private scratch, and the rest. -/
theorem ownBufs_tile : ∃ R : sProp 𝕄, (ownBufs (tile d L) : sProp 𝕄)
    = iprop((∃ f, (tile d L).loc cc0_scratch0 ↦{fullShare} f) ∗ R) :=
  ⟨_, SparseCore.bigSep_erase' (SparseCore.Cfg.mem_ownRefs_of_owner (p := Proc.scVector (cV L) (iV L))
    (b := (Proc.scVector (cV L) (iV L)).devRef cc0_scratch0) rfl)⟩

/-- Half `b` of a scratch, held as the task addresses it. -/
abbrev hPts {sp : Space} (A : Memref sig .scVector sp S2x32x1024 .f32) (b : ℕ)
    (h : ∀ a, (![b, 0, 0] : Fin 3 → ℕ) a + S1x32x1024.size a ≤ S2x32x1024.size a) (f : Buf (Elt F) (A.view.loc (tile d L))) : sProp 𝕄 :=
  (half A b h).view.loc (tile d L) ↦[(half A b h).view.set]{fullShare} f

/-- A scratch of two blocks is its halves. -/
theorem pts_halves {sp : Space} (A : Memref sig .scVector sp S2x32x1024 .f32) (f : Buf (Elt F) (A.view.loc (tile d L))) :
    (A.view.loc (tile d L) ↦[A.view.set]{fullShare} f : sProp 𝕄)
      ⊢ iprop(hPts d L A 0 inb_S2x32x1024_S1x32x1024_0_0_0 f ∗ hPts d L A 1 inb_S2x32x1024_S1x32x1024_1_0_0 f) := by
  rw [← halves_union A]
  exact (pointsTo_union (halves_disjoint A)).1

/-- The halves of a scratch, whatever each holds, are the scratch at some contents. -/
theorem halves_pts {sp : Space} (A : Memref sig .scVector sp S2x32x1024 .f32) (f g : Buf (Elt F) (A.view.loc (tile d L))) :
    iprop(hPts d L A 0 inb_S2x32x1024_S1x32x1024_0_0_0 f ∗ hPts d L A 1 inb_S2x32x1024_S1x32x1024_1_0_0 g)
      ⊢ (iprop(∃ k, A.view.loc (tile d L) ↦[A.view.set]{fullShare} k) : sProp 𝕄) := by
  rw [← halves_union A]
  iintro H
  ihave H := (pointsTo_join (halves_disjoint A)) $$ H
  iexists _; iexact H

/-- The task's slot of the shared scratch, cut into its halves. -/
theorem slot_halves (f : Buf (Elt F) (sLoc d (cV L))) :
    (sLoc d (cV L) ↦[slot (iN L)]{fullShare} f : sProp 𝕄)
      ⊢ iprop(hPts d L (slotK L) 0 inb_S2x32x1024_S1x32x1024_0_0_0 f ∗ hPts d L (slotK L) 1 inb_S2x32x1024_S1x32x1024_1_0_0 f) := by
  rw [← set_slotK L (iN L) rfl]
  exact pts_halves d L (slotK L) f

/-- The halves of the task's slot, put together. -/
theorem halves_slot (f g : Buf (Elt F) (sLoc d (cV L))) :
    iprop(hPts d L (slotK L) 0 inb_S2x32x1024_S1x32x1024_0_0_0 f ∗ hPts d L (slotK L) 1 inb_S2x32x1024_S1x32x1024_1_0_0 g)
      ⊢ (iprop(∃ k, sLoc d (cV L) ↦[slot (iN L)]{fullShare} k) : sProp 𝕄) := by
  rw [← set_slotK L (iN L) rfl]
  exact halves_pts d L (slotK L) f g

/-- The task's private scratch, cut into its halves. -/
theorem scratch_halves (f : Buf (Elt F) ((tile d L).loc cc0_scratch0)) :
    ((tile d L).loc cc0_scratch0 ↦{fullShare} f : sProp 𝕄)
      ⊢ iprop(hPts d L tV 0 inb_S2x32x1024_S1x32x1024_0_0_0 f ∗ hPts d L tV 1 inb_S2x32x1024_S1x32x1024_1_0_0 f) := by
  have h := pts_halves d L tV f
  rwa [show tV.view.set = Finset.univ from View.set_whole _] at h

/-- The halves of the task's private scratch, put together. -/
theorem halves_scratch (f g : Buf (Elt F) ((tile d L).loc cc0_scratch0)) :
    iprop(hPts d L tV 0 inb_S2x32x1024_S1x32x1024_0_0_0 f ∗ hPts d L tV 1 inb_S2x32x1024_S1x32x1024_1_0_0 g)
      ⊢ (iprop(∃ k, (tile d L).loc cc0_scratch0 ↦{fullShare} k) : sProp 𝕄) := by
  have h := halves_pts d L tV f g
  rwa [show tV.view.set = Finset.univ from View.set_whole _] at h

/-- The eight blocks of the table that are the task's on subcore `i` of SparseCore `c`, at contents `f`. -/
abbrev wHeld (c : Fin 2) (i : Fin 16) (f : Buf (Elt F) (wLoc d)) : sProp 𝕄 :=
  bigSep Finset.univ fun r : Fin 8 => wLoc d ↦[block (blockNo c i r)]{fullShare} f
/-- The same blocks of the result, at contents `f`. -/
abbrev oHeld (c : Fin 2) (i : Fin 16) (f : Buf (Elt F) (oLoc d)) : sProp 𝕄 :=
  bigSep Finset.univ fun r : Fin 8 => oLoc d ↦[block (blockNo c i r)]{fullShare} f
variable (F) in
/-- Slot `i` of SparseCore `c`'s shared scratch, at some contents. -/
abbrev sHeld (c : Fin τ.nSC) (i : Fin 16) : sProp 𝕄 := iprop(∃ f, sLoc d c ↦[slot i]{fullShare} f)

/-- Thirty-two rows of the table, held as the task addresses them. -/
abbrev wPts (off : Fin 2 → ℕ) (h : ∀ a, off a + S32x1024.size a ≤ S8192x1024.size a) (f : Buf (Elt F) (wLoc d)) : sProp 𝕄 :=
  (wRows off h).view.loc (tile d L) ↦[(wRows off h).view.set]{fullShare} f
/-- Thirty-two rows of the result, held as the task addresses them. -/
abbrev oPts (off : Fin 2 → ℕ) (h : ∀ a, off a + S32x1024.size a ≤ S8192x1024.size a) (f : Buf (Elt F) (oLoc d)) : sProp 𝕄 :=
  (oRows off h).view.loc (tile d L) ↦[(oRows off h).view.set]{fullShare} f

/-- The task's eight blocks of the table. -/
theorem wBlocks (f : Buf (Elt F) (wLoc d)) :
    wHeld d (cN L) (iN L) f
      = iprop(wPts d L (k0_off1 L 0#32) (k0_off1_inb L 0) f ∗ wPts d L (k0_off1 L 32#32) (k0_off1_inb L 1) f
          ∗ wPts d L (k0_off1 L 64#32) (k0_off1_inb L 2) f ∗ wPts d L (k0_off3 L 0#32) (k0_off3_inb L 0) f
          ∗ wPts d L (k0_off3 L 32#32) (k0_off3_inb L 1) f ∗ wPts d L (k0_off3 L 64#32) (k0_off3_inb L 2) f
          ∗ wPts d L (k0_off3 L 96#32) (k0_off3_inb L 3) f ∗ wPts d L (k0_off3 L 128#32) (k0_off3_inb L 4) f) := by
  unfold wHeld
  rw [bigSep_eight, pts_wRows d L _ (k0_off1_inb L 0) _ (off_lo L 0 0 rfl) f, pts_wRows d L _ (k0_off1_inb L 1) _ (off_lo L 1 1 rfl) f,
    pts_wRows d L _ (k0_off1_inb L 2) _ (off_lo L 2 2 rfl) f, pts_wRows d L _ (k0_off3_inb L 0) _ (off_hi L 0 3 rfl) f,
    pts_wRows d L _ (k0_off3_inb L 1) _ (off_hi L 1 4 rfl) f, pts_wRows d L _ (k0_off3_inb L 2) _ (off_hi L 2 5 rfl) f,
    pts_wRows d L _ (k0_off3_inb L 3) _ (off_hi L 3 6 rfl) f, pts_wRows d L _ (k0_off3_inb L 4) _ (off_hi L 4 7 rfl) f]
  rfl

/-- The task's eight blocks of the result. -/
theorem oBlocks (f : Buf (Elt F) (oLoc d)) :
    oHeld d (cN L) (iN L) f
      = iprop(oPts d L (k0_off1 L 0#32) (k0_off1_inb L 0) f ∗ oPts d L (k0_off1 L 32#32) (k0_off1_inb L 1) f
          ∗ oPts d L (k0_off1 L 64#32) (k0_off1_inb L 2) f ∗ oPts d L (k0_off3 L 0#32) (k0_off3_inb L 0) f
          ∗ oPts d L (k0_off3 L 32#32) (k0_off3_inb L 1) f ∗ oPts d L (k0_off3 L 64#32) (k0_off3_inb L 2) f
          ∗ oPts d L (k0_off3 L 96#32) (k0_off3_inb L 3) f ∗ oPts d L (k0_off3 L 128#32) (k0_off3_inb L 4) f) := by
  unfold oHeld
  rw [bigSep_eight, pts_oRows d L _ (k0_off1_inb L 0) _ (off_lo L 0 0 rfl) f, pts_oRows d L _ (k0_off1_inb L 1) _ (off_lo L 1 1 rfl) f,
    pts_oRows d L _ (k0_off1_inb L 2) _ (off_lo L 2 2 rfl) f, pts_oRows d L _ (k0_off3_inb L 0) _ (off_hi L 0 3 rfl) f,
    pts_oRows d L _ (k0_off3_inb L 1) _ (off_hi L 1 4 rfl) f, pts_oRows d L _ (k0_off3_inb L 2) _ (off_hi L 2 5 rfl) f,
    pts_oRows d L _ (k0_off3_inb L 3) _ (off_hi L 3 6 rfl) f, pts_oRows d L _ (k0_off3_inb L 4) _ (off_hi L 4 7 rfl) f]
  rfl

/-- A block of a scratch reads as what was last copied into it. -/
theorem read_last {sp : Space} (B : Memref sig .scVector sp S32x1024 .f32) (f : B.view.ty.Contents (Elt F)) (v : S32x1024.Idx → Elt F .f32)
    (Ls : List (View.Piece (Elt F) S32x1024 .f32)) :
    B.view.read (Elt F) (B.view.writes (Elt F) f (⟨Rect.whole S32x1024, v⟩ :: Ls)) = v := by
  rw [← List.singleton_append, View.writes_append]
  exact View.read_writes_whole _ _ _

/-- Rows of the result into which the same rows of the table were copied hold the table. -/
theorem landed (off : Fin 2 → ℕ) (h : ∀ a, off a + S32x1024.size a ≤ S8192x1024.size a) (f₀ : Buf (Elt F) (oLoc d))
    (f : Buf (Elt F) (wLoc d)) (v : S32x1024.Idx → Elt F .f32) (hv : v = (wRows off h).view.read (Elt F) f) :
    oPts d L off h ((oRows off h).view.writes (Elt F) f₀ [⟨Rect.whole S32x1024, v⟩]) ⊢ (oPts d L off h f : sProp 𝕄) := by
  subst hv
  refine Entails.of_eq (pointsTo_congr fun i hi => ?_)
  rw [← View.write_univ_eq_writes_whole]
  obtain ⟨x, -, rfl⟩ := Finset.mem_map.mp hi
  exact View.write_emb_of_mem _ _ (Finset.mem_univ x)

variable [FloatOps F]

/-- The task on subcore `L 1` of SparseCore `L 0`: from its eight blocks of the table and of the result and its slot of the
    shared scratch it returns, the result's blocks holding the table's. -/
theorem task (hF : (K (F := F)).Facts) (O : CellTallies nD τ sig (HIx 1)) (W : Waits sig (HIx 1)) (hO : ∀ g, O g none = 0) :
    iprop(levAts (K (F := F)).L (K (F := F)).lev ∗ emp
        ∗ (wHeld d (cN L) (iN L) (m (wLoc d))
          ∗ oHeld d (cN L) (iN L) (m (oLoc d))
          ∗ sHeld F d (cV L) (iN L))
        ∗ scopedBufs (tile d L) ∗ scopedSems0 (tile d L) ∗ owes (tile d L) O W)
      ⊢ wp frame (wpE (defs₀ (F := F)) 𝒱₀ (tile d L) none) Set.univ
          (cc0__sc_body L wV (Memref.isWhole_whole _) oV (Memref.isWhole_whole _) tV (Memref.isWhole_whole _)
            sV (Memref.isWhole_whole _) cc0_scratch2 cc0_scratch3 cc0_scratch4 cc0_scratch5)
          fun _ => iprop((wHeld d (cN L) (iN L) (m (wLoc d))
            ∗ oHeld d (cN L) (iN L) (m (wLoc d))
            ∗ sHeld F d (cV L) (iN L))
            ∗ scopedBufs (tile d L) ∗ scopedSems0 (tile d L)
            ∗ ∃ W', ⌜∀ p ∈ W', p ∈ W ∨ p.2 = none⌝ ∗ owes (tile d L) O W') := by
  obtain ⟨RB, eB⟩ := ownBufs_tile (F := F) d L
  simp only [cc0__sc_body_eq_skeleton]; unfold cc0__sc_body_skel
  rw [(K (F := F)).scopedBufs_V hF d (cV L) (iV L), SparseCore.Cfg.scopedSems0_V (Val := Elt F) d (cV L) (iV L),
    ownSems_tile, eB, wBlocks, oBlocks, oBlocks]
  iintro ⟨#Hlv, -, ⟨⟨Hw0, Hw1, Hw2, Hw3, Hw4, Hw5, Hw6, Hw7⟩, ⟨Ho0, Ho1, Ho2, Ho3, Ho4, Ho5, Ho6, Ho7⟩, %fs, Hs⟩, ⟨⟨%ft, Ht⟩, HRB⟩,
    ⟨⟨Hc0, Hc1, Hc2, Hc3, Hc4, Hc5, Hc6, Hc7⟩, HRS⟩, HO⟩
  ihave Hmw := (show levAts (K (F := F)).L (K (F := F)).lev ⊢ Transfers.MayWaits (tile d L) (default : HIx 1) O from
    (K (F := F)).mayWaits_none (thr := tile d L) hO) $$ Hlv
  ihave Hs := (slot_halves d L fs) $$ Hs
  icases Hs with ⟨Hs0, Hs1⟩
  ihave Ht := (scratch_halves d L ft) $$ Ht
  icases Ht with ⟨Ht0, Ht1⟩
  sl_exec
  sl_step
  isplitl [Hw0 Hw1 Hw2 Hw3 Hw4 Hw5 Hw6 Hw7 Ho0 Ho1 Ho2 Ho3 Ho4 Ho5 Ho6 Ho7 Hs0 Hs1]
  · isplitl [Hw0 Hw1 Hw2 Hw3 Hw4 Hw5 Hw6 Hw7]
    · isplitl [Hw0]; · iexact Hw0
      isplitl [Hw1]; · iexact Hw1
      isplitl [Hw2]; · iexact Hw2
      isplitl [Hw3]; · iexact Hw3
      isplitl [Hw4]; · iexact Hw4
      isplitl [Hw5]; · iexact Hw5
      isplitl [Hw6]; · iexact Hw6
      iexact Hw7
    isplitl [Ho0 Ho1 Ho2 Ho3 Ho4 Ho5 Ho6 Ho7]
    · isplitl [Ho0]; · iapply (landed d L _ _ _ _ _ (read_last _ _ _ _)); iexact Ho0
      isplitl [Ho1]; · iapply (landed d L _ _ _ _ _ (read_last _ _ _ _)); iexact Ho1
      isplitl [Ho2]; · iapply (landed d L _ _ _ _ _ (read_last _ _ _ _)); iexact Ho2
      isplitl [Ho3]; · iapply (landed d L _ _ _ _ _ (read_last _ _ _ _)); iexact Ho3
      isplitl [Ho4]; · iapply (landed d L _ _ _ _ _ (read_last _ _ _ _)); iexact Ho4
      isplitl [Ho5]; · iapply (landed d L _ _ _ _ _ (read_last _ _ _ _)); iexact Ho5
      isplitl [Ho6]; · iapply (landed d L _ _ _ _ _ (read_last _ _ _ _)); iexact Ho6
      iapply (landed d L _ _ _ _ _ (read_last _ _ _ _)); iexact Ho7
    iapply (halves_slot d L _ _); isplitl [Hs0] <;> iassumption
  isplitl [Ht0 Ht1 HRB]
  · isplitl [Ht0 Ht1]
    · iapply (halves_scratch d L _ _); isplitl [Ht0] <;> iassumption
    iexact HRB
  isplitl [Hc0 Hc1 Hc2 Hc3 Hc4 Hc5 Hc6 Hc7 HRS]
  · isplitr [HRS]
    · isplitl [Hc0]; · iexact Hc0
      isplitl [Hc1]; · iexact Hc1
      isplitl [Hc2]; · iexact Hc2
      isplitl [Hc3]; · iexact Hc3
      isplitl [Hc4]; · iexact Hc4
      isplitl [Hc5]; · iexact Hc5
      isplitl [Hc6]; · iexact Hc6
      iexact Hc7
    iexact HRS
  iexists _; isplitr
  swap; · iexact HO
  ipureintro; intro p hp
  simp only [Finset.mem_insert] at hp
  rcases hp with hp | hp | hp | hp | hp | hp | hp | hp | hp | hp | hp | hp | hp | hp | hp | hp | hp <;>
    first | exact .inl hp | exact .inr (hp ▸ rfl)

end Cert.Proof.Lookup

end
-- ==== Proof.Launch.lean ====
/-
  The launch of the lookup kernel: what the TensorCore hands the two SparseCores and these their tasks, how the table, the
  result and the shared scratches split into the tasks' pieces and come back, and the run of the whole program, which ends
  with the result holding the table, the operands unchanged and every semaphore counter at zero.
-/
module

public import proofs.«01_k».proof.Proof.Tile

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The blocks, over SparseCores, subcores and a task's eight -/

/-- The block a SparseCore, a subcore and one of a task's eight name. -/
abbrev blockOf (x : Fin 2 × Fin 16 × Fin 8) : Finset S8192x1024.Idx := block (blockNo x.1 x.2.1 x.2.2)

/-- No two tasks, and no two turns of one task, have a row in common; -/
theorem blockOf_disjoint : ∀ x ∈ (Finset.univ : Finset (Fin 2 × Fin 16 × Fin 8)), ∀ y ∈ (Finset.univ : Finset (Fin 2 × Fin 16 × Fin 8)),
    x ≠ y → Disjoint (blockOf x) (blockOf y) := by
  rintro ⟨c, i, r⟩ - ⟨c', i', r'⟩ - h
  refine Rect.part_disjoint cut256 fun e => h ?_
  have e := congrArg Fin.val e
  simp only [blockNo] at e
  refine Prod.ext (Fin.ext ?_) (Prod.ext (Fin.ext ?_) (Fin.ext ?_)) <;> dsimp only <;> omega

/-- every row is some task's. -/
theorem blockOf_cover : (Finset.univ : Finset (Fin 2 × Fin 16 × Fin 8)).biUnion blockOf = Finset.univ := by
  refine Finset.eq_univ_iff_forall.mpr fun j => ?_
  have hj : j ∈ (Finset.univ : Finset (Fin 256)).biUnion block := by rw [Rect.biUnion_part cut256]; exact Finset.mem_univ j
  obtain ⟨n, -, hn⟩ := Finset.mem_biUnion.mp hj
  refine Finset.mem_biUnion.mpr ⟨(⟨n.val / 128, by omega⟩, ⟨n.val % 128 / 8, by omega⟩, ⟨n.val % 8, by omega⟩), Finset.mem_univ _, ?_⟩
  have e : blockNo ⟨n.val / 128, by omega⟩ ⟨n.val % 128 / 8, by omega⟩ ⟨n.val % 8, by omega⟩ = n := by
    refine Fin.ext ?_
    simp only [blockNo]
    omega
  show j ∈ block (blockNo _ _ _)
  rw [e]; exact hn

/-- The whole table is the tasks' blocks of it. -/
theorem table_tasks (d : Dev nD) (f : Buf (Elt F) (wLoc d)) :
    (wLoc d ↦{fullShare} f : sProp 𝕄) = bigSep Finset.univ fun c : Fin 2 => bigSep Finset.univ fun i : Fin 16 => wHeld d c i f := by
  refine Eq.trans ?_ ((bigSep_univ_prod (fun x : Fin 2 × Fin 16 × Fin 8 => (wLoc d ↦[blockOf x]{fullShare} f : sProp 𝕄))).trans
    (bigSep_congr fun c _ => bigSep_univ_prod _))
  rw [← pointsTo_biUnion Finset.univ (ℓ := wLoc d) blockOf blockOf_disjoint, blockOf_cover]

/-- The whole result is the tasks' blocks of it. -/
theorem result_tasks (d : Dev nD) (f : Buf (Elt F) (oLoc d)) :
    (oLoc d ↦{fullShare} f : sProp 𝕄) = bigSep Finset.univ fun c : Fin 2 => bigSep Finset.univ fun i : Fin 16 => oHeld d c i f := by
  refine Eq.trans ?_ ((bigSep_univ_prod (fun x : Fin 2 × Fin 16 × Fin 8 => (oLoc d ↦[blockOf x]{fullShare} f : sProp 𝕄))).trans
    (bigSep_congr fun c _ => bigSep_univ_prod _))
  rw [← pointsTo_biUnion Finset.univ (ℓ := oLoc d) blockOf blockOf_disjoint, blockOf_cover]

/-! ## The slots of a shared scratch -/

/-- The slots of a shared scratch share no element, -/
theorem slot_disjoint : ∀ i ∈ (Finset.univ : Finset (Fin 16)), ∀ j ∈ (Finset.univ : Finset (Fin 16)), i ≠ j → Disjoint (slot i) (slot j) :=
  fun _ _ _ _ h => Rect.part_disjoint cut16 h
/-- and together are all of it. -/
theorem slot_cover : (Finset.univ : Finset (Fin 16)).biUnion slot = Finset.univ := Rect.biUnion_part cut16

/-- A shared scratch, whatever it holds, is cut into the tasks' slots. -/
theorem scratch_slots (d : Dev nD) (c : Fin τ.nSC) :
    (iprop(∃ f, sLoc d c ↦{fullShare} f) : sProp 𝕄) ⊢ bigSep Finset.univ fun i : Fin 16 => sHeld F d c i := by
  iintro ⟨%f, H⟩
  have e : (sLoc d c ↦{fullShare} f : sProp 𝕄) = bigSep Finset.univ fun i : Fin 16 => sLoc d c ↦[slot i]{fullShare} f := by
    rw [← pointsTo_biUnion Finset.univ (ℓ := sLoc d c) slot slot_disjoint, slot_cover]
  ihave H := ((Entails.of_eq e).trans (SparseCore.ent (bigSep_mono fun i _ =>
    BI.BIClass.exists_intro (Φ := fun f : Buf (Elt F) (sLoc d c) => (sLoc d c ↦[slot i]{fullShare} f : sProp 𝕄)) f))) $$ H
  iexact H

variable [FloatOps F] in
/-- The tasks' slots, whatever each holds, are the shared scratch at some contents. -/
theorem slots_scratch (d : Dev nD) (c : Fin τ.nSC) :
    (bigSep Finset.univ fun i : Fin 16 => sHeld F d c i) ⊢ (iprop(∃ f, sLoc d c ↦{fullShare} f) : sProp 𝕄) := by
  refine (bigSep_exists_pi Finset.univ fun i (f : Buf (Elt F) (sLoc d c)) => (sLoc d c ↦[slot i]{fullShare} f : sProp 𝕄)).trans ?_
  iintro ⟨%fs, H⟩
  ihave H := (pointsTo_biUnion_join (ℓ := sLoc d c) (q := fullShare) (Val := Elt F) Finset.univ slot fs (fs 0) slot_disjoint) $$ H
  icases H with ⟨%g, -, Hg⟩
  rw [slot_cover]
  iexists g; iexact Hg

/-- The shared scratch is among the buffers of its SparseCore's sequencer. -/
theorem ownBufs_seq (d : Dev nD) (c : Fin τ.nSC) :
    ∃ R : sProp 𝕄, (ownBufs (S d c) : sProp 𝕄) = iprop((∃ f, sLoc d c ↦{fullShare} f) ∗ R) :=
  ⟨_, SparseCore.bigSep_erase' ((mem_ownRefs (p := Proc.scScalar c) (b := sRef c)).mpr rfl)⟩

variable (m : (ℓ : Loc nD τ sig) → Buf (Elt F) ℓ) (ρ : Dev nD → PrngReg)

variable [FloatOps F]

/-! ## What the handshakes carry -/

/-- A SparseCore's number among the call's two. -/
abbrev cNo (c : Fin ((K (F := F)).nCore 0)) : Fin 2 := Fin.cast nCore_zero c
/-- A subcore's number among the call's sixteen. -/
abbrev iNo (i : Fin ((K (F := F)).nSub 0)) : Fin 16 := Fin.cast nSub_zero i

/-- What a SparseCore is handed and hands back: its sixteen tasks' blocks of the table and of the result. -/
abbrev coreHeld (d : Dev nD) (c : Fin 2) (g : Buf (Elt F) (oLoc d)) : sProp 𝕄 :=
  iprop((bigSep Finset.univ fun i : Fin 16 => wHeld d c i (m (wLoc d))) ∗ bigSep Finset.univ fun i : Fin 16 => oHeld d c i g)
/-- What a task is handed and hands back: its blocks of the table and of the result, and its slot of the shared scratch. -/
abbrev taskHeld (d : Dev nD) (c : Fin 2) (cs : Fin τ.nSC) (i : Fin 16) (g : Buf (Elt F) (oLoc d)) : sProp 𝕄 :=
  iprop(wHeld d c i (m (wLoc d)) ∗ oHeld d c i g ∗ sHeld F d cs i)

/-- The call's payloads: the result's blocks go out as the launch found them and come back holding the table's. -/
def P : (K (F := F)).Pay (nD := nD) (Val := Elt F) (Name := ℕ) (U := UU) where
  st := fun q d c => match q with | 0 => coreHeld m d (cNo (F := F) c) (m (oLoc d))
  dn := fun q d c => match q with | 0 => coreHeld m d (cNo (F := F) c) (m (wLoc d))
  go := fun q d c i => match q with | 0 => taskHeld m d (cNo (F := F) c) ((K (F := F)).core 0 c) (iNo (F := F) i) (m (oLoc d))
  td := fun q d c i => match q with | 0 => taskHeld m d (cNo (F := F) c) ((K (F := F)).core 0 c) (iNo (F := F) i) (m (wLoc d))
  x := fun _ _ => iprop(emp)

/-- The payloads hold memory alone, so a handshake can keep them. -/
instance P_storable : (P (F := F) m).IsStorable where
  st q d c := match q with
    | 0 => (inferInstance : BI.Storable (upEmb : UEmb _ 𝕄) (coreHeld m d (cNo (F := F) c) (m (oLoc d))))
  dn q d c := match q with
    | 0 => (inferInstance : BI.Storable (upEmb : UEmb _ 𝕄) (coreHeld m d (cNo (F := F) c) (m (wLoc d))))
  go q d c i := match q with
    | 0 => (inferInstance : BI.Storable (upEmb : UEmb _ 𝕄)
      (taskHeld m d (cNo (F := F) c) ((K (F := F)).core 0 c) (iNo (F := F) i) (m (oLoc d))))
  td q d c i := match q with
    | 0 => (inferInstance : BI.Storable (upEmb : UEmb _ 𝕄)
      (taskHeld m d (cNo (F := F) c) ((K (F := F)).core 0 c) (iNo (F := F) i) (m (wLoc d))))

/-! ## The tasks -/

/-- The grid's point of a SparseCore and a subcore. -/
def coordsV (c : Fin (grid0.bound 0)) (s : Fin (grid0.bound 1)) : grid0.Coords :=
  fun | 0 => c | 1 => s | ⟨_ + 2, h⟩ => absurd h (Nat.not_lt.2 (Nat.le_add_left _ _))

/-- What a subcore runs for the call is the kernel at its point of the grid. -/
theorem defs₀_vector (c : Fin τ.nSC) (s : Fin τ.nSub) :
    defs₀ (F := F) (.scVector c s) 0 ()
      = SparseCore.onTile hcore0 hsub0 (fun c s => cc0__sc_body (coordsV c s) wV (Memref.isWhole_whole _) oV (Memref.isWhole_whole _)
          tV (Memref.isWhole_whole _) sV (Memref.isWhole_whole _) cc0_scratch2 cc0_scratch3 cc0_scratch4 cc0_scratch5) ⟨⟩ c s := rfl

omit [FloatOps F] in
/-- The waits a task records at no call's level are among those the launch allows it. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every task of the call does its part. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (task m d (coordsV ⟨_, hci.1⟩ ⟨_, hci.2⟩) hF O W hO).trans (wp_mono frame _ _ fun _ => obl_post)

/-! ## A SparseCore's hold and its tasks' -/

omit [FloatOps F] in
/-- A family over the call's subcores is one over sixteen; -/
theorem bigSep_tasks (Φ : Fin 16 → sProp 𝕄) :
    (bigSep Finset.univ fun i : Fin ((K (F := F)).nSub 0) => Φ (iNo (F := F) i)) = bigSep Finset.univ Φ :=
  bigSep_congr fun _ _ => congrArg Φ (Fin.ext rfl)
omit [FloatOps F] in
/-- one over its SparseCores is one over two. -/
theorem bigSep_cores (Φ : Fin 2 → sProp 𝕄) :
    (bigSep Finset.univ fun c : Fin ((K (F := F)).nCore 0) => Φ (cNo (F := F) c)) = bigSep Finset.univ Φ :=
  bigSep_congr fun _ _ => congrArg Φ (Fin.ext rfl)

omit [FloatOps F] in
/-- The sixteen tasks' holds are the SparseCore's and the slots. -/
theorem tasks_held (d : Dev nD) (c : Fin 2) (cs : Fin τ.nSC) (g : Buf (Elt F) (oLoc d)) :
    (bigSep Finset.univ fun i : Fin ((K (F := F)).nSub 0) => taskHeld m d c cs (iNo (F := F) i) g)
      = iprop((bigSep Finset.univ fun i : Fin 16 => wHeld d c i (m (wLoc d)))
          ∗ (bigSep Finset.univ fun i : Fin 16 => oHeld d c i g) ∗ bigSep Finset.univ fun i : Fin 16 => sHeld F d cs i) := by
  rw [bigSep_tasks (F := F) (fun i => taskHeld m d c cs i g), bigSep_sep', bigSep_sep']

/-- A SparseCore deals its tasks their blocks and the slots of its shared scratch, and puts together what they bring back. -/
theorem vecSplit : (K (F := F)).VecSplit (P m) 0 := by
  intro d c
  obtain ⟨R, eR⟩ := ownBufs_seq (F := F) d ((K (F := F)).core 0 c)
  show iprop(coreHeld m d (cNo (F := F) c) (m (oLoc d)) ∗ ownBufs (S d ((K (F := F)).core 0 c))) ⊢ |={Set.univ}=> iprop(
      (bigSep Finset.univ fun i : Fin ((K (F := F)).nSub 0) =>
        taskHeld m d (cNo (F := F) c) ((K (F := F)).core 0 c) (iNo (F := F) i) (m (oLoc d)))
      ∗ ((bigSep Finset.univ fun i : Fin ((K (F := F)).nSub 0) =>
          taskHeld m d (cNo (F := F) c) ((K (F := F)).core 0 c) (iNo (F := F) i) (m (wLoc d)))
          -∗ iprop(coreHeld m d (cNo (F := F) c) (m (wLoc d)) ∗ ownBufs (S d ((K (F := F)).core 0 c)))))
  rw [tasks_held, tasks_held, eR]
  iintro ⟨⟨Hw, Ho⟩, Hs, HR⟩; imodintro
  isplitl [Hw Ho Hs]
  · isplitl [Hw]; · iexact Hw
    isplitl [Ho]; · iexact Ho
    iapply (scratch_slots d _); iexact Hs
  iintro ⟨Hw, Ho, Hs⟩
  isplitl [Hw Ho]
  · isplitl [Hw]; · iexact Hw
    iexact Ho
  isplitl [Hs]; · iapply (slots_scratch d _); iexact Hs
  iexact HR

/-! ## The launch's ghost state -/

/-- The ghost state the launch starts with: the handshakes' rounds, and no copy in flight. -/
def u₀ : UU := (initOf (K (F := F)).hsCells (K (F := F)).hsToks, 1)

/-- From it come the handshakes; the devices and the threads need nothing more. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [show (bigSep Finset.univ fun _ : Dev nD => iprop(emp)) = (iprop(emp) : sProp 𝕄) from bigSep_emp_const _]; iempintro
  rw [show (bigSep Finset.univ fun thr : Thread nD τ => bigSep Finset.univ fun q : Fin 1 => (P (F := F) m).x q thr)
      = iprop(emp) from
    (bigSep_congr fun _ _ => bigSep_univ_of_subsingleton (0 : Fin 1)).trans (bigSep_emp_const _)]
  iempintro

/-! ## The program on the TensorCore -/

omit [FloatOps F] in
/-- The TensorCore's buffers: the untouched operand, the table and the result. -/
theorem unscopedBufs_eq (d : Dev nD) (W : (b : Ref sig .tc) → Buf (Elt F) ((d.tc : Thread nD τ).loc b)) :
    (unscopedBufs d W : sProp 𝕄)
      = iprop((pLoc d ↦{fullShare} W main_arg0) ∗ (wLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

omit [FloatOps F] in
/-- The two SparseCores' holds are the whole table and the whole result. -/
theorem cores_held (d : Dev nD) (g : Buf (Elt F) (oLoc d)) :
    (bigSep Finset.univ fun c : Fin ((K (F := F)).nCore 0) => coreHeld m d (cNo (F := F) c) g)
      = iprop((wLoc d ↦{fullShare} m (wLoc d)) ∗ oLoc d ↦{fullShare} g) := by
  rw [bigSep_cores (F := F) (fun c => coreHeld m d c g), bigSep_sep', ← table_tasks, ← result_tasks]

/-- What the program ends with: the operands as they were, the result holding the table. -/
abbrev FIN (d : Dev nD) : sProp 𝕄 :=
  iprop((pLoc d ↦{fullShare} m (pLoc d)) ∗ (wLoc d ↦{fullShare} m (wLoc d)) ∗ oLoc d ↦{fullShare} (m (wLoc d) : Buf (Elt F) (oLoc d)))

/-- The program on device `d`'s TensorCore: the one call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hp, Hw, Ho⟩, Hts, -⟩, -⟩
  iapply ((K (F := F)).wp_run (D (F := F)) 𝒱 (EH := EH) (P := P m) κ d 0) $$ [Hst Hp Hw Ho Hb Hts]
  isplitr; · iexact Hctx
  isplitl [Hst]; · iexact Hst
  isplitl [Hw Ho]
  · iapply (Entails.of_eq (cores_held m d (m (oLoc d))).symm)
    isplitl [Hw]; · iexact Hw
    iexact Ho
  iintro ⟨Hst, Hdn⟩
  ihave Hdn := (show (bigSep Finset.univ fun c : Fin ((K (F := F)).nCore 0) => (P m).dn 0 d c) ⊢ _ from
    Entails.of_eq (cores_held m d (m (wLoc d)))) $$ Hdn
  icases Hdn with ⟨Hw, Ho⟩
  imodintro
  isplitl [Hst]; · iexact Hst
  isplitr [Hb Hts]
  · isplitl [Hp]; · iexact Hp
    isplitl [Hw]; · iexact Hw
    iexact Ho
  isplitl [Hb] <;> iassumption

/-- A final state at which device `d`'s result holds the table and its operands are as they were. -/
def fq (d : Dev nD) (s' : Phys nD τ sig (Elt F)) : Prop :=
  s'.mem.mem (oLoc d) = m (wLoc d) ∧ s'.mem.mem (pLoc d) = m (pLoc d) ∧ s'.mem.mem (wLoc d) = m (wLoc d)

omit [FloatOps F] in
/-- A buffer held whole at known contents has them in the state. -/
theorem read_whole (ℓ : Loc nD τ sig) (f : Buf (Elt F) ℓ) (s' : Phys nD τ sig (Elt F)) :
    iprop(SI s' ∗ ℓ ↦{fullShare} f) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HSI, -⟩
  isplitr
  · ipureintro; exact funext fun i => h i (Finset.mem_univ i)
  · iexact HSI

omit [FloatOps F] in
/-- What the program ends with says what the final memory holds. -/
theorem hfin (d : Dev nD) (s' : Phys nD τ sig (Elt F)) : iprop(FIN m d ∗ SI s') ⊢ (⌜fq m d s'⌝ : sProp 𝕄) := by
  iintro ⟨⟨Hp, Hw, Ho⟩, HSI⟩
  ihave H := (read_whole (pLoc d) (m (pLoc d)) s') $$ [HSI Hp]
  · isplitl [HSI] <;> iassumption
  icases H with ⟨%h1, HSI⟩
  ihave H := (read_whole (wLoc d) (m (wLoc d)) s') $$ [HSI Hw]
  · isplitl [HSI] <;> iassumption
  icases H with ⟨%h2, HSI⟩
  ihave H := (read_whole (oLoc d) (m (wLoc d)) s') $$ [HSI Ho]
  · isplitl [HSI] <;> iassumption
  icases H with ⟨%h3, -⟩
  ipureintro; exact ⟨h3, h1, h2⟩

/-! ## The program's run -/

/-- On every device the result holds the table and the operands are as they were; every semaphore counter is zero. -/
def QC : PUnit × MemSt nD τ sig (Elt F) → Prop := fun r =>
  (∀ c : Dev nD, r.2.mem (oLoc c) = m (wLoc c) ∧ r.2.mem (pLoc c) = m (pLoc c) ∧ r.2.mem (wLoc c) = m (wLoc c))
    ∧ r.2.sem = fun _ => 0

/-- The lookup program, over any float values, from any memory with every counter at zero: every weakly fair execution
    terminates with the result holding the table, the operands unchanged and every counter at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => vecSplit m)
    m ρ main (fun _ => iprop(emp)) (FIN m) (u₀ (F := F)) (sep_elim_left.trans (hu₀ m)) (hmain m ρ) (fq m) (hfin m) (QC m)
    (fun _ h hz => ⟨h, hz⟩)

end Cert.Proof.Lookup

end
-- ==== Proof.Reference.lean ====
/-
  What the reference computes: it looks up row `i` of the table for every row number `i`, and so returns the table.

  The reference counts the rows out, wraps the negative numbers among them (there are none), fetches the rows they name,
  and blanks those whose number is out of range (none is).
-/
module

public import proofs.«01_k».proof.Defs
public import proofs.«01_k».proof.Proof.Gen.Reference.Run
public import proofs.«01_k».proof.Proof.Gen.ReferenceIdeal.Run
public import Idealize.ShloMosaic.Lib.Routing.Ops
public import Idealize.ShloMosaic.Lib.ReduceAll

@[expose] public section

noncomputable section

namespace Cert.Proof.Rows

open Cert.ReferenceIdeal Cert.ReferenceIdeal.Gen
open Idealize.ShloMosaic Idealize.ShloMosaic.ValueIdx

variable {F : FTy → Type} [FloatOps F]

/-- A row number as a word: not negative, below 8192, and itself after wrapping. -/
theorem word_facts (n : ℕ) (h : n < 8192) :
    (BitVec.ofNat 32 n).slt 0#32 = false ∧ (0#32).sle (BitVec.ofNat 32 n) = true ∧ (BitVec.ofNat 32 n).sle 8191#32 = true := by
  have e : (BitVec.ofNat 32 n).toInt = n := by
    rw [BitVec.toInt_eq_toNat_cond, BitVec.toNat_ofNat, Nat.mod_eq_of_lt (by omega)]
    simp only [Nat.reducePow]; omega
  have e0 : (0#32).toInt = 0 := by decide
  have e1 : (8191#32).toInt = 8191 := by decide
  simp only [BitVec.slt_eq_decide, BitVec.sle_eq_decide, e, e0, e1]
  refine ⟨decide_eq_false (by omega), decide_eq_true (by omega), decide_eq_true (by omega)⟩

/-- The row numbers the reference looks up, negative ones wrapped, as a column. -/
abbrev wanted : IVec S8192x1 32 :=
  broadcastInDim S8192x1 ![0] bcast_S8192_S8192x1_0
    (select (cmpi .slt (iotaInDim S8192 32 0) (broadcastInDim S8192 ![] bcast_S_S8192 (constantI S_ 32 0#32)))
      (addi (iotaInDim S8192 32 0) (broadcastInDim S8192 ![] bcast_S_S8192 (constantI S_ 32 8192#32))) (iotaInDim S8192 32 0))

/-- The number looked up in place `r` is `r`. -/
theorem wanted_apply (r : Fin 8192) (z : Fin 1) : wanted (ix2 r z) = BitVec.ofNat 32 r.val := by
  unfold wanted
  rw [broadcastInDim_apply ![0] bcast_S8192_S8192x1_0 _ (ix2 r z) (ix1 r) (fun a => by
    obtain rfl : a = 0 := Subsingleton.elim _ _
    rfl)]
  show Scalar.select (BitVec.ofBool ((BitVec.ofNat 32 r.val).slt 0#32)) _ (BitVec.ofNat 32 r.val) = _
  rw [(word_facts r.val r.isLt).1]
  rfl

/-- Which of the numbers looked up are rows of the table, as a column of bits. -/
abbrev inRange : IVec S8192x1 1 :=
  andi (cmpi .sge wanted (broadcastInDim S8192x1 ![] bcast_S_S8192x1 (constantI S_ 32 0#32)))
    (cmpi .sle wanted (broadcastInDim S8192x1 ![0, 1] bcast_S1x1_S8192x1_0_1
      (broadcastInDim S1x1 ![1] bcast_S1_S1x1_1 (constantI S1 32 8191#32))))

/-- All of them. -/
theorem inRange_apply (y : S8192x1.Idx) : inRange y = 1#1 := by
  obtain ⟨r, z, rfl⟩ : ∃ (r : Fin 8192) (z : Fin 1), y = ix2 r z := ⟨y 0, y 1, eq_ix2 y⟩
  show IntOp.andi (BitVec.ofBool ((0#32).sle (wanted (ix2 r z)))) (BitVec.ofBool ((wanted (ix2 r z)).sle 8191#32)) = 1#1
  rw [wanted_apply, (word_facts r.val r.isLt).2.1, (word_facts r.val r.isLt).2.2]
  decide

/-- The rows looked up in a table are the table. -/
theorem lookup (x : S8192x1024.Idx → Elt F .f32) :
    select (broadcastInDim S8192x1024 ![0] bcast_S8192_S8192x1024_0
        (Host.reduce IntOp.andi inRange (constantI S_ 1 1#1) reducesTo_S8192x1_S8192_d1 h_S_))
      (Host.gather gather_S8192x1024_S8192x1_S8192x1024_1_0_n_n_0_1_11024 x wanted)
      (broadcastInDim S8192x1024 ![] bcast_S_S8192x1024 (constant S_ .f32 0x7FC00000#32)) = x := by
  funext j
  obtain ⟨r, t, rfl⟩ : ∃ (r : Fin 8192) (t : Fin 1024), j = ix2 r t := ⟨j 0, j 1, eq_ix2 j⟩
  have hm : broadcastInDim S8192x1024 ![0] bcast_S8192_S8192x1024_0
      (Host.reduce IntOp.andi inRange (constantI S_ 1 1#1) reducesTo_S8192x1_S8192_d1 h_S_) (ix2 r t) = 1#1 := by
    unfold broadcastInDim Host.reduce
    exact IntOp.foldl_andi_one (fun n => inRange (S8192x1.rowMajor.symm n)) _ _ rfl fun n _ => inRange_apply _
  rw [select_apply, hm]
  refine (if_pos (by decide)).trans ?_
  exact Routing.gather_row gather_S8192x1024_S8192x1_S8192x1024_1_0_n_n_0_1_11024 rfl rfl rfl rfl rfl x wanted r t r
    (wanted_apply r 0) (by decide)

end Cert.Proof.Rows

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Gen.ReferenceIdeal.Run
public import proofs.«01_k».proof.Proof.Gen.Reference.Run
public import proofs.«01_k».proof.Proof.Launch
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel over its own floats: the operands end unchanged and every counter at zero. The program is the ideal one's text. -/
theorem frame_kernel : Cert.quiescent_Kernel := fun m ρ _ =>
  (θ_run Cert.KernelIdeal.defs _ _).mono (fun _ h => ⟨fun c => (h.1 c).2, h.2⟩) (Lookup.run_main (F := Bits) m ρ)

/-- The same over the ideal reals. -/
theorem frame_kernelIdeal : Cert.quiescent_KernelIdeal := fun m ρ _ =>
  (θ_run Cert.KernelIdeal.defs _ _).mono (fun _ h => ⟨fun c => (h.1 c).2, h.2⟩) (Lookup.run_main (F := Ideal) m ρ)

/-- The ideal reference leaves its operands unchanged; it declares no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference leaves its operands unchanged; it declares no semaphore. -/
theorem frame_reference : Cert.quiescent_Reference := fun m ρ _ =>
  (θ_run Cert.Reference.defs _ _).mono (fun r h => ⟨fun c => (h c).2, sem_eq_zero_of_no_sems (by decide) r.2⟩)
    (Cert.Reference.Value.run (F := Bits) m ρ)

/-- Over the ideal reals the kernel and the reference both end with the table. -/
theorem algebraic : Cert.algebraic_KernelIdeal_ReferenceIdeal := fun m ρ m' ρ' _ hagree =>
  ⟨fun c => m ((c.tc : Thread Cert.KernelIdeal.nD Cert.KernelIdeal.τ).loc Cert.KernelIdeal.main_arg1),
    (θ_run Cert.KernelIdeal.defs _ _).mono (fun _ h c => h.1 c) (Lookup.run_main (F := Ideal) m ρ),
    (θ_run Cert.ReferenceIdeal.defs _ _).mono
      (fun _ h c => ⟨((h c).1.trans (Rows.lookup _)).trans (hagree c).2, (h c).2⟩)
      (Cert.ReferenceIdeal.Value.run (F := Ideal) m' ρ')⟩

/-- Over the floats as bits the kernel and the reference both end with the table. -/
theorem bitexact : Cert.bitexact_Kernel_Reference := fun m ρ m' ρ' _ hagree =>
  ⟨fun c => m ((c.tc : Thread Cert.Kernel.nD Cert.Kernel.τ).loc Cert.Kernel.main_arg1),
    (θ_run Cert.KernelIdeal.defs _ _).mono (fun _ h c => h.1 c) (Lookup.run_main (F := Bits) m ρ),
    (θ_run Cert.Reference.defs _ _).mono
      (fun _ h c => ⟨((h c).1.trans (Rows.lookup _)).trans (hagree c).2, (h c).2⟩)
      (Cert.Reference.Value.run (F := Bits) m' ρ')⟩

/-- All the claims together. -/
theorem claim : Cert.Claim :=
  ⟨Cert.Kernel.Gen.facts, Cert.KernelIdeal.Gen.facts, Cert.ReferenceIdeal.Gen.facts, Cert.Reference.Gen.facts,
    frame_kernel, frame_kernelIdeal, frame_referenceIdeal, frame_reference, trivial, algebraic, bitexact⟩

end Cert.Proof

end
